-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel2_Kernel2Ideal : Prop :=
  True

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel3_Kernel3Ideal
    ∧ algebraic_Kernel3Ideal_Reference3Ideal (hKernel3Ideal := hKernel3Ideal) (hReference3Ideal := hReference3Ideal)
    ∧ preserves_Kernel2_Kernel2Ideal
-- ==== Kernel.lean ====
abbrev S16x2048x1024 : Shape := ⟨3, ![16, 2048, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩

abbrev nBuf : Space → Nat
  | .hbm => 11
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S32768x1024, .f32⟩
  | .hbm, ⟨6, _⟩ => ⟨S1x1024, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x2048x1024 : Shape := ⟨3, ![16, 2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩
abbrev S32768x1024 : Shape := ⟨2, ![32768, 1024]⟩

abbrev nBuf : Space → Nat
  | .hbm => 45
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x2048x4096, .f32⟩
  | .hbm, ⟨22, _⟩ => ⟨S_, .f32⟩
  | .hbm, ⟨23, _⟩ => ⟨S16x2048x4096, .f32⟩
  | .hbm, ⟨24, _⟩ => ⟨S16x2048x4096, .f32⟩
  | .hbm, ⟨25, _⟩ => ⟨S16x2048x4096, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S16x2048x1, .f32⟩
  | .hbm, ⟨39, _⟩ => ⟨S16x2048x1024, .f32⟩
  | .hbm, ⟨40, _⟩ => ⟨S16x2048x1024, .f32⟩
  | .hbm, ⟨41, _⟩ => ⟨S1x1x1024, .f32⟩
  | .hbm, ⟨42, _⟩ => ⟨S16x2048x1024, .f32⟩
  | .hbm, ⟨43, _⟩ => ⟨S16x2048x1024, .f32⟩
  | .hbm, ⟨44, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩

abbrev nBuf : Space → Nat
  | .hbm => 11
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S32768x1024, .f32⟩
  | .hbm, ⟨6, _⟩ => ⟨S1x1024, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16x2048x1024 : Shape := ⟨3, ![16, 2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩
abbrev S32768x1024 : Shape := ⟨2, ![32768, 1024]⟩

abbrev nBuf : Space → Nat
  | .hbm => 29
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x2048x4096, .f32⟩
  | .hbm, ⟨22, _⟩ => ⟨S_, .f32⟩
  | .hbm, ⟨23, _⟩ => ⟨S16x2048x4096, .f32⟩
  | .hbm, ⟨24, _⟩ => ⟨S16x2048x4096, .f32⟩
  | .hbm, ⟨25, _⟩ => ⟨S16x2048x4096, .f32⟩
  | .hbm, ⟨26, _⟩ => ⟨S16x2048x1024, .f32⟩
  | .hbm, ⟨27, _⟩ => ⟨S16x2048x1024, .f32⟩
  | .hbm, ⟨28, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024 : Shape := ⟨1, ![1024]⟩
abbrev S1024x2568 : Shape := ⟨2, ![1024, 2568]⟩
abbrev S4 : Shape := ⟨1, ![4]⟩
abbrev S256 : Shape := ⟨1, ![256]⟩
abbrev S4x64x64 : Shape := ⟨3, ![4, 64, 64]⟩
abbrev S31x256 : Shape := ⟨2, ![31, 256]⟩
abbrev S256x256 : Shape := ⟨2, ![256, 256]⟩
abbrev S3x256 : Shape := ⟨2, ![3, 256]⟩
abbrev S1024x1024 : Shape := ⟨2, ![1024, 1024]⟩
abbrev S1024x1536 : Shape := ⟨2, ![1024, 1536]⟩
abbrev S1024x8 : Shape := ⟨2, ![1024, 8]⟩
abbrev S_ : Shape := ⟨0, ![]⟩
abbrev S1024x120 : Shape := ⟨2, ![1024, 120]⟩
abbrev S1024x2688 : Shape := ⟨2, ![1024, 2688]⟩
abbrev S120 : Shape := ⟨1, ![120]⟩
abbrev S128 : Shape := ⟨1, ![128]⟩
abbrev S1x128 : Shape := ⟨2, ![1, 128]⟩
abbrev S1x1024 : Shape := ⟨2, ![1, 1024]⟩
abbrev S1x256 : Shape := ⟨2, ![1, 256]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S1x256x1024 : Shape := ⟨3, ![1, 256, 1024]⟩
abbrev S256x384 : Shape := ⟨2, ![256, 384]⟩
abbrev S8x128 : Shape := ⟨2, ![8, 128]⟩
abbrev S288x256 : Shape := ⟨2, ![288, 256]⟩
abbrev S272x256 : Shape := ⟨2, ![272, 256]⟩
abbrev S264x256 : Shape := ⟨2, ![264, 256]⟩
abbrev S32x256 : Shape := ⟨2, ![32, 256]⟩
abbrev S16x256 : Shape := ⟨2, ![16, 256]⟩
abbrev S8x256 : Shape := ⟨2, ![8, 256]⟩
abbrev S256x1024 : Shape := ⟨2, ![256, 1024]⟩
abbrev S256x1 : Shape := ⟨2, ![256, 1]⟩
abbrev S1024x256 : Shape := ⟨2, ![1024, 256]⟩
abbrev S1024x128 : Shape := ⟨2, ![1024, 128]⟩
abbrev S256x128 : Shape := ⟨2, ![256, 128]⟩
abbrev S128x256 : Shape := ⟨2, ![128, 256]⟩
abbrev S120x256 : Shape := ⟨2, ![120, 256]⟩
abbrev S8x1 : Shape := ⟨2, ![8, 1]⟩
abbrev S64x256 : Shape := ⟨2, ![64, 256]⟩
abbrev S1x1 : Shape := ⟨2, ![1, 1]⟩
abbrev S1x384 : Shape := ⟨2, ![1, 384]⟩

abbrev nBuf : Space → Nat
  | .hbm => 51
  | .vmem => 24
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2568, .f32⟩
  | .hbm, ⟨3, _⟩ => ⟨S4, .f32⟩
  | .hbm, ⟨4, _⟩ => ⟨S4, .f32⟩
  | .hbm, ⟨5, _⟩ => ⟨S256, .f32⟩
  | .hbm, ⟨6, _⟩ => ⟨S4x64x64, .f32⟩
  | .hbm, ⟨7, _⟩ => ⟨S256, .f32⟩
  | .hbm, ⟨8, _⟩ => ⟨S31x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S3x256, .f32⟩
  | .hbm, ⟨15, _⟩ => ⟨S1024x1024, .f32⟩
  | .hbm, ⟨16, _⟩ => ⟨S1024x1024, .f32⟩
  | .hbm, ⟨17, _⟩ => ⟨S1024x1536, .f32⟩
  | .hbm, ⟨18, _⟩ => ⟨S1024x8, .f32⟩
  | .hbm, ⟨19, _⟩ => ⟨S_, .f32⟩
  | .hbm, ⟨20, _⟩ => ⟨S1024x120, .f32⟩
  | .hbm, ⟨21, _⟩ => ⟨S1024x2688, .f32⟩
  | .hbm, ⟨22, _⟩ => ⟨S1024x2688, .bf16⟩
  | .hbm, ⟨23, _⟩ => ⟨S_, .f32⟩
  | .hbm, ⟨24, _⟩ => ⟨S120, .f32⟩
  | .hbm, ⟨25, _⟩ => ⟨S128, .f32⟩
  | .hbm, ⟨26, _⟩ => ⟨S1x128, .f32⟩
  | .hbm, ⟨27, _⟩ => ⟨S1x1024, .f32⟩
  | .hbm, ⟨28, _⟩ => ⟨S1x256, .f32⟩
  | .hbm, ⟨29, _⟩ => ⟨S4x4, .i32⟩
  | .hbm, ⟨30, _⟩ => ⟨S4x4, .i32⟩
  | .hbm, ⟨31, _⟩ => ⟨S_, .i32⟩
  | .hbm, ⟨32, _⟩ => ⟨S4x4, .i32⟩
  | .hbm, ⟨33, _⟩ => ⟨S4x4, .i32⟩
  | .hbm, ⟨34, _⟩ => ⟨S4x4, .i1⟩
  | .hbm, ⟨35, _⟩ => ⟨S4x4, .f32⟩
  | .hbm, ⟨36, _⟩ => ⟨S4x1x4x1, .f32⟩
  | .hbm, ⟨37, _⟩ => ⟨S4x64x1x64, .f32⟩
  | .hbm, ⟨38, _⟩ => ⟨S4x64x4x64, .f32⟩
  | .hbm, ⟨39, _⟩ => ⟨S4x64x4x64, .f32⟩
  | .hbm, ⟨40, _⟩ => ⟨S4x64x4x64, .f32⟩
  | .hbm, ⟨41, _⟩ => ⟨S256x256, .f32⟩
  | .hbm, ⟨42, _⟩ => ⟨S256x256, .bf16⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S256x256, .bf16⟩
  | .hbm, ⟨48, _⟩ => ⟨S1x256, .f32⟩
  | .hbm, ⟨49, _⟩ => ⟨S1024x1024, .bf16⟩
  | .hbm, ⟨50, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2688, .bf16⟩
  | .local _ .vmem, ⟨4, _⟩ => ⟨S1x128, .f32⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S31x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S256x256, .bf16⟩
  | .local _ .vmem, ⟨13, _⟩ => ⟨S1x256, .f32⟩
  | .local _ .vmem, ⟨14, _⟩ => ⟨S3x256, .f32⟩
  | .local _ .vmem, ⟨15, _⟩ => ⟨S1024x1024, .bf16⟩
  | .local _ .vmem, ⟨16, _⟩ => ⟨S1x256x1024, .f32⟩
  | .local _ .vmem, ⟨17, _⟩ => ⟨S1x256x1024, .f32⟩
  | .local _ .vmem, ⟨18, _⟩ => ⟨S256x384, .f32⟩
  | .local _ .vmem, ⟨19, _⟩ => ⟨S8x128, .f32⟩
  | .local _ .vmem, ⟨20, _⟩ => ⟨S1x128, .f32⟩
  | .local _ .vmem, ⟨21, _⟩ => ⟨S288x256, .f32⟩
  | .local _ .vmem, ⟨22, _⟩ => ⟨S272x256, .f32⟩
  | .local _ .vmem, ⟨23, _⟩ => ⟨S264x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S31x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S16x2048x1024 : Shape := ⟨3, ![16, 2048, 1024]⟩
abbrev S1024 : Shape := ⟨1, ![1024]⟩
abbrev S1024x2568 : Shape := ⟨2, ![1024, 2568]⟩
abbrev S4 : Shape := ⟨1, ![4]⟩
abbrev S256 : Shape := ⟨1, ![256]⟩
abbrev S4x64x64 : Shape := ⟨3, ![4, 64, 64]⟩
abbrev S31x256 : Shape := ⟨2, ![31, 256]⟩
abbrev S256x256 : Shape := ⟨2, ![256, 256]⟩
abbrev S3x256 : Shape := ⟨2, ![3, 256]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2568 : Shape := ⟨3, ![16, 2048, 2568]⟩
abbrev S16x2048x256 : Shape := ⟨3, ![16, 2048, 256]⟩
abbrev S16x2048x4 : Shape := ⟨3, ![16, 2048, 4]⟩
abbrev S16x2048x4x64 : Shape := ⟨4, ![16, 2048, 4, 64]⟩
abbrev S16x4x2048x64 : Shape := ⟨4, ![16, 4, 2048, 64]⟩
abbrev S1x1x4 : Shape := ⟨3, ![1, 1, 4]⟩
abbrev S16x4x2048 : Shape := ⟨3, ![16, 4, 2048]⟩
abbrev S2048x2048 : Shape := ⟨2, ![2048, 2048]⟩
abbrev S16x4x2048x1 : Shape := ⟨4, ![16, 4, 2048, 1]⟩
abbrev S16x4x1x2048 : Shape := ⟨4, ![16, 4, 1, 2048]⟩
abbrev S16x4x2048x2048 : Shape := ⟨4, ![16, 4, 2048, 2048]⟩
abbrev S16x2048x4x1 : Shape := ⟨4, ![16, 2048, 4, 1]⟩
abbrev S1x1x256 : Shape := ⟨3, ![1, 1, 256]⟩
abbrev S16x1x4x64 : Shape := ⟨4, ![16, 1, 4, 64]⟩
abbrev S16x2049x4x64 : Shape := ⟨4, ![16, 2049, 4, 64]⟩
abbrev S2048 : Shape := ⟨1, ![2048]⟩
abbrev S16x2048x1x64 : Shape := ⟨4, ![16, 2048, 1, 64]⟩
abbrev S16x2048x64 : Shape := ⟨3, ![16, 2048, 64]⟩
abbrev S16x1x64 : Shape := ⟨3, ![16, 1, 64]⟩
abbrev S16x2047x1x64 : Shape := ⟨4, ![16, 2047, 1, 64]⟩
abbrev S16x2047x64 : Shape := ⟨3, ![16, 2047, 64]⟩
abbrev S1x2048x1 : Shape := ⟨3, ![1, 2048, 1]⟩
abbrev S16x3x64 : Shape := ⟨3, ![16, 3, 64]⟩
abbrev S16x2045x1x64 : Shape := ⟨4, ![16, 2045, 1, 64]⟩
abbrev S16x2045x64 : Shape := ⟨3, ![16, 2045, 64]⟩
abbrev S16x7x64 : Shape := ⟨3, ![16, 7, 64]⟩
abbrev S16x2041x1x64 : Shape := ⟨4, ![16, 2041, 1, 64]⟩
abbrev S16x2041x64 : Shape := ⟨3, ![16, 2041, 64]⟩
abbrev S16x15x64 : Shape := ⟨3, ![16, 15, 64]⟩
abbrev S16x2033x1x64 : Shape := ⟨4, ![16, 2033, 1, 64]⟩
abbrev S16x2033x64 : Shape := ⟨3, ![16, 2033, 64]⟩
abbrev S4x64x16x2048 : Shape := ⟨4, ![4, 64, 16, 2048]⟩
abbrev S16x30x256 : Shape := ⟨3, ![16, 30, 256]⟩
abbrev S16x2078x256 : Shape := ⟨3, ![16, 2078, 256]⟩
abbrev S1x256 : Shape := ⟨2, ![1, 256]⟩
abbrev S16x2x256 : Shape := ⟨3, ![16, 2, 256]⟩
abbrev S16x2050x256 : Shape := ⟨3, ![16, 2050, 256]⟩

abbrev nBuf : Space → Nat
  | .hbm => 542
  | .vmem => 0
  | .smem => 0
  | _ => 0

abbrev hbmTy0_0 (i : Nat) : BufTy := match i % 128 with
  | 0 => ⟨S16x2048x1024, .f32⟩
  | 1 => ⟨S1024, .f32⟩
  | 2 => ⟨S1024x2568, .f32⟩
  | 3 => ⟨S4, .f32⟩
  | 4 => ⟨S4, .f32⟩
  | 5 => ⟨S256, .f32⟩
  | 6 => ⟨S4x64x64, .f32⟩
  | 7 => ⟨S256, .f32⟩
  | 8 => ⟨S31x256, .f32⟩
  | 9 => ⟨S256, .f32⟩
  | 10 => ⟨S256, .f32⟩
  | 11 => ⟨S256, .f32⟩
  | 12 => ⟨S256x256, .f32⟩
  | 13 => ⟨S256, .f32⟩
  | 14 => ⟨S3x256, .f32⟩
  | 15 => ⟨S1024x1024, .f32⟩
  | 16 => ⟨S16x2048x1024, .f32⟩
  | 17 => ⟨S_, .f32⟩
  | 18 => ⟨S16x2048, .f32⟩
  | 19 => ⟨S16x2048x1, .f32⟩
  | 20 => ⟨S_, .f32⟩
  | 21 => ⟨S16x2048x1, .f32⟩
  | 22 => ⟨S16x2048x1, .f32⟩
  | 23 => ⟨S_, .f32⟩
  | 24 => ⟨S16x2048x1, .f32⟩
  | 25 => ⟨S16x2048x1, .f32⟩
  | 26 => ⟨S16x2048x1, .f32⟩
  | 27 => ⟨S16x2048x1024, .f32⟩
  | 28 => ⟨S16x2048x1024, .f32⟩
  | 29 => ⟨S1x1x1024, .f32⟩
  | 30 => ⟨S16x2048x1024, .f32⟩
  | 31 => ⟨S16x2048x1024, .f32⟩
  | 32 => ⟨S16x2048x2568, .f32⟩
  | 33 => ⟨S16x2048x256, .f32⟩
  | 34 => ⟨S16x2048x256, .f32⟩
  | 35 => ⟨S16x2048x256, .f32⟩
  | 36 => ⟨S16x2048x256, .f32⟩
  | 37 => ⟨S16x2048x4, .f32⟩
  | 38 => ⟨S16x2048x4, .f32⟩
  | 39 => ⟨S16x2048x256, .f32⟩
  | 40 => ⟨S16x2048x256, .f32⟩
  | 41 => ⟨S16x2048x256, .f32⟩
  | 42 => ⟨S16x2048x256, .f32⟩
  | 43 => ⟨S16x2048x256, .f32⟩
  | 44 => ⟨S16x2048x256, .f32⟩
  | 45 => ⟨S16x2048x4x64, .f32⟩
  | 46 => ⟨S16x4x2048x64, .f32⟩
  | 47 => ⟨S16x2048x4x64, .f32⟩
  | 48 => ⟨S16x4x2048x64, .f32⟩
  | 49 => ⟨S_, .f32⟩
  | 50 => ⟨S16x4x2048x64, .f32⟩
  | 51 => ⟨S16x4x2048x64, .f32⟩
  | 52 => ⟨S16x2048x4x64, .f32⟩
  | 53 => ⟨S16x4x2048x64, .f32⟩
  | 54 => ⟨S1x1x4, .f32⟩
  | 55 => ⟨S16x2048x4, .f32⟩
  | 56 => ⟨S16x2048x4, .f32⟩
  | 57 => ⟨S16x4x2048, .f32⟩
  | 58 => ⟨S1x1x4, .f32⟩
  | 59 => ⟨S16x2048x4, .f32⟩
  | 60 => ⟨S16x2048x4, .f32⟩
  | 61 => ⟨S16x4x2048, .f32⟩
  | 62 => ⟨S16x4x2048, .f32⟩
  | 63 => ⟨S_, .f32⟩
  | 64 => ⟨S16x4x2048, .f32⟩
  | 65 => ⟨S16x4x2048, .f32⟩
  | 66 => ⟨S16x4x2048, .f32⟩
  | 67 => ⟨S16x4x2048, .f32⟩
  | 68 => ⟨S16x4x2048, .i1⟩
  | 69 => ⟨S16x4x2048, .f32⟩
  | 70 => ⟨S16x4x2048, .f32⟩
  | 71 => ⟨S16x4x2048, .f32⟩
  | 72 => ⟨S16x4x2048, .f32⟩
  | 73 => ⟨S16x4x2048, .f32⟩
  | 74 => ⟨S16x4x2048, .f32⟩
  | 75 => ⟨S16x4x2048, .f32⟩
  | 76 => ⟨S16x4x2048, .f32⟩
  | 77 => ⟨S16x4x2048, .f32⟩
  | 78 => ⟨S_, .i1⟩
  | 79 => ⟨S2048x2048, .i1⟩
  | 80 => ⟨S2048x2048, .i32⟩
  | 81 => ⟨S_, .i32⟩
  | 82 => ⟨S2048x2048, .i32⟩
  | 83 => ⟨S2048x2048, .i32⟩
  | 84 => ⟨S2048x2048, .i32⟩
  | 85 => ⟨S2048x2048, .i1⟩
  | 86 => ⟨S_, .i1⟩
  | 87 => ⟨S2048x2048, .i1⟩
  | 88 => ⟨S2048x2048, .i1⟩
  | 89 => ⟨S_, .f32⟩
  | 90 => ⟨S_, .f32⟩
  | 91 => ⟨S16x4x2048, .f32⟩
  | 92 => ⟨S16x4x2048x1, .f32⟩
  | 93 => ⟨S16x4x1x2048, .f32⟩
  | 94 => ⟨S16x4x2048x2048, .f32⟩
  | 95 => ⟨S16x4x2048x2048, .f32⟩
  | 96 => ⟨S16x4x2048x2048, .f32⟩
  | 97 => ⟨S16x4x1x2048, .f32⟩
  | 98 => ⟨S16x4x2048x2048, .f32⟩
  | 99 => ⟨S16x4x2048x2048, .f32⟩
  | 100 => ⟨S_, .f32⟩
  | 101 => ⟨S_, .f32⟩
  | 102 => ⟨S16x4x2048x2048, .i1⟩
  | 103 => ⟨S16x4x2048x2048, .f32⟩
  | 104 => ⟨S16x4x2048x2048, .f32⟩
  | 105 => ⟨S_, .f32⟩
  | 106 => ⟨S16x4x2048, .f32⟩
  | 107 => ⟨S16x4x2048, .f32⟩
  | 108 => ⟨S16x4x2048x2048, .f32⟩
  | 109 => ⟨S16x4x2048x1, .f32⟩
  | 110 => ⟨S16x4x2048x2048, .f32⟩
  | 111 => ⟨S16x4x2048x2048, .f32⟩
  | 112 => ⟨S16x4x2048x2048, .f32⟩
  | 113 => ⟨S16x4x2048x2048, .f32⟩
  | 114 => ⟨S16x4x2048x64, .f32⟩
  | 115 => ⟨S_, .f32⟩
  | 116 => ⟨S16x4x2048, .f32⟩
  | 117 => ⟨S16x4x2048, .f32⟩
  | 118 => ⟨S16x4x2048, .f32⟩
  | 119 => ⟨S16x4x2048, .f32⟩
  | 120 => ⟨S16x4x2048, .f32⟩
  | 121 => ⟨S16x4x2048x1, .f32⟩
  | 122 => ⟨S16x4x2048x64, .f32⟩
  | 123 => ⟨S16x4x2048x64, .f32⟩
  | 124 => ⟨S16x2048x4x64, .f32⟩
  | 125 => ⟨S16x2048x4x64, .f32⟩
  | 126 => ⟨S_, .f32⟩
  | 127 => ⟨S16x2048x4, .f32⟩
  | _ => ⟨S16x2048x1024, .f32⟩

abbrev hbmTy0_1 (i : Nat) : BufTy := match i % 128 with
  | 0 => ⟨S16x2048x4x1, .f32⟩
  | 1 => ⟨S_, .f32⟩
  | 2 => ⟨S16x2048x4x1, .f32⟩
  | 3 => ⟨S16x2048x4x1, .f32⟩
  | 4 => ⟨S_, .f32⟩
  | 5 => ⟨S16x2048x4x1, .f32⟩
  | 6 => ⟨S16x2048x4x1, .f32⟩
  | 7 => ⟨S16x2048x4x1, .f32⟩
  | 8 => ⟨S16x2048x4x64, .f32⟩
  | 9 => ⟨S16x2048x4x64, .f32⟩
  | 10 => ⟨S16x2048x256, .f32⟩
  | 11 => ⟨S1x1x256, .f32⟩
  | 12 => ⟨S16x2048x256, .f32⟩
  | 13 => ⟨S16x2048x256, .f32⟩
  | 14 => ⟨S16x2048x256, .f32⟩
  | 15 => ⟨S16x2048x256, .f32⟩
  | 16 => ⟨S_, .f32⟩
  | 17 => ⟨S16x2048x256, .f32⟩
  | 18 => ⟨S16x2048x256, .f32⟩
  | 19 => ⟨S_, .f32⟩
  | 20 => ⟨S16x2048x256, .f32⟩
  | 21 => ⟨S16x2048x256, .f32⟩
  | 22 => ⟨S16x2048x256, .f32⟩
  | 23 => ⟨S16x2048x4x64, .f32⟩
  | 24 => ⟨S_, .f32⟩
  | 25 => ⟨S16x1x4x64, .f32⟩
  | 26 => ⟨S_, .f32⟩
  | 27 => ⟨S_, .f32⟩
  | 28 => ⟨S16x2048x4x64, .f32⟩
  | 29 => ⟨S16x2049x4x64, .f32⟩
  | 30 => ⟨S2048, .f32⟩
  | 31 => ⟨S_, .f32⟩
  | 32 => ⟨S2048, .f32⟩
  | 33 => ⟨S2048, .f32⟩
  | 34 => ⟨S16x2048x1x64, .f32⟩
  | 35 => ⟨S16x2048x64, .f32⟩
  | 36 => ⟨S_, .f32⟩
  | 37 => ⟨S16x1x64, .f32⟩
  | 38 => ⟨S16x2047x1x64, .f32⟩
  | 39 => ⟨S16x2047x64, .f32⟩
  | 40 => ⟨S16x2048x64, .f32⟩
  | 41 => ⟨S_, .f32⟩
  | 42 => ⟨S2048, .f32⟩
  | 43 => ⟨S2048, .f32⟩
  | 44 => ⟨S1x2048x1, .f32⟩
  | 45 => ⟨S16x2048x64, .f32⟩
  | 46 => ⟨S16x2048x64, .f32⟩
  | 47 => ⟨S16x2048x64, .f32⟩
  | 48 => ⟨S16x2048x1x64, .f32⟩
  | 49 => ⟨S16x2048x64, .f32⟩
  | 50 => ⟨S16x2048x64, .f32⟩
  | 51 => ⟨S16x2048x1x64, .f32⟩
  | 52 => ⟨S16x2048x64, .f32⟩
  | 53 => ⟨S_, .f32⟩
  | 54 => ⟨S16x3x64, .f32⟩
  | 55 => ⟨S16x2045x1x64, .f32⟩
  | 56 => ⟨S16x2045x64, .f32⟩
  | 57 => ⟨S16x2048x64, .f32⟩
  | 58 => ⟨S_, .f32⟩
  | 59 => ⟨S2048, .f32⟩
  | 60 => ⟨S2048, .f32⟩
  | 61 => ⟨S1x2048x1, .f32⟩
  | 62 => ⟨S16x2048x64, .f32⟩
  | 63 => ⟨S16x2048x64, .f32⟩
  | 64 => ⟨S16x2048x64, .f32⟩
  | 65 => ⟨S16x2048x1x64, .f32⟩
  | 66 => ⟨S16x2048x64, .f32⟩
  | 67 => ⟨S16x2048x64, .f32⟩
  | 68 => ⟨S16x2048x1x64, .f32⟩
  | 69 => ⟨S16x2048x64, .f32⟩
  | 70 => ⟨S_, .f32⟩
  | 71 => ⟨S16x7x64, .f32⟩
  | 72 => ⟨S16x2041x1x64, .f32⟩
  | 73 => ⟨S16x2041x64, .f32⟩
  | 74 => ⟨S16x2048x64, .f32⟩
  | 75 => ⟨S_, .f32⟩
  | 76 => ⟨S2048, .f32⟩
  | 77 => ⟨S2048, .f32⟩
  | 78 => ⟨S1x2048x1, .f32⟩
  | 79 => ⟨S16x2048x64, .f32⟩
  | 80 => ⟨S16x2048x64, .f32⟩
  | 81 => ⟨S16x2048x64, .f32⟩
  | 82 => ⟨S16x2048x1x64, .f32⟩
  | 83 => ⟨S16x2048x64, .f32⟩
  | 84 => ⟨S16x2048x64, .f32⟩
  | 85 => ⟨S16x2048x1x64, .f32⟩
  | 86 => ⟨S16x2048x64, .f32⟩
  | 87 => ⟨S_, .f32⟩
  | 88 => ⟨S16x15x64, .f32⟩
  | 89 => ⟨S16x2033x1x64, .f32⟩
  | 90 => ⟨S16x2033x64, .f32⟩
  | 91 => ⟨S16x2048x64, .f32⟩
  | 92 => ⟨S_, .f32⟩
  | 93 => ⟨S2048, .f32⟩
  | 94 => ⟨S2048, .f32⟩
  | 95 => ⟨S1x2048x1, .f32⟩
  | 96 => ⟨S16x2048x64, .f32⟩
  | 97 => ⟨S16x2048x64, .f32⟩
  | 98 => ⟨S16x2048x64, .f32⟩
  | 99 => ⟨S16x2048x1x64, .f32⟩
  | 100 => ⟨S16x2048x64, .f32⟩
  | 101 => ⟨S16x2048x64, .f32⟩
  | 102 => ⟨S16x2048x1x64, .f32⟩
  | 103 => ⟨S16x2048x1x64, .f32⟩
  | 104 => ⟨S16x2048x1x64, .f32⟩
  | 105 => ⟨S16x2048x1x64, .f32⟩
  | 106 => ⟨S16x2048x4x64, .f32⟩
  | 107 => ⟨S4x64x16x2048, .f32⟩
  | 108 => ⟨S16x2048x4x64, .f32⟩
  | 109 => ⟨S16x2048x256, .f32⟩
  | 110 => ⟨S1x1x256, .f32⟩
  | 111 => ⟨S16x2048x256, .f32⟩
  | 112 => ⟨S16x2048x256, .f32⟩
  | 113 => ⟨S16x2048x256, .f32⟩
  | 114 => ⟨S16x2048x256, .f32⟩
  | 115 => ⟨S_, .f32⟩
  | 116 => ⟨S16x2048x256, .f32⟩
  | 117 => ⟨S16x2048x256, .f32⟩
  | 118 => ⟨S_, .f32⟩
  | 119 => ⟨S16x2048x256, .f32⟩
  | 120 => ⟨S16x2048x256, .f32⟩
  | 121 => ⟨S16x2048x256, .f32⟩
  | 122 => ⟨S_, .f32⟩
  | 123 => ⟨S16x30x256, .f32⟩
  | 124 => ⟨S16x2078x256, .f32⟩
  | 125 => ⟨S16x2048x256, .f32⟩
  | 126 => ⟨S1x256, .f32⟩
  | 127 => ⟨S256, .f32⟩
  | _ => ⟨S16x2048x1024, .f32⟩

abbrev hbmTy0_2 (i : Nat) : BufTy := match i % 128 with
  | 0 => ⟨S1x1x256, .f32⟩
  | 1 => ⟨S16x2048x256, .f32⟩
  | 2 => ⟨S16x2048x256, .f32⟩
  | 3 => ⟨S16x2048x256, .f32⟩
  | 4 => ⟨S1x256, .f32⟩
  | 5 => ⟨S256, .f32⟩
  | 6 => ⟨S1x1x256, .f32⟩
  | 7 => ⟨S16x2048x256, .f32⟩
  | 8 => ⟨S16x2048x256, .f32⟩
  | 9 => ⟨S16x2048x256, .f32⟩
  | 10 => ⟨S16x2048x256, .f32⟩
  | 11 => ⟨S1x256, .f32⟩
  | 12 => ⟨S256, .f32⟩
  | 13 => ⟨S1x1x256, .f32⟩
  | 14 => ⟨S16x2048x256, .f32⟩
  | 15 => ⟨S16x2048x256, .f32⟩
  | 16 => ⟨S16x2048x256, .f32⟩
  | 17 => ⟨S16x2048x256, .f32⟩
  | 18 => ⟨S1x256, .f32⟩
  | 19 => ⟨S256, .f32⟩
  | 20 => ⟨S1x1x256, .f32⟩
  | 21 => ⟨S16x2048x256, .f32⟩
  | 22 => ⟨S16x2048x256, .f32⟩
  | 23 => ⟨S16x2048x256, .f32⟩
  | 24 => ⟨S16x2048x256, .f32⟩
  | 25 => ⟨S1x256, .f32⟩
  | 26 => ⟨S256, .f32⟩
  | 27 => ⟨S1x1x256, .f32⟩
  | 28 => ⟨S16x2048x256, .f32⟩
  | 29 => ⟨S16x2048x256, .f32⟩
  | 30 => ⟨S16x2048x256, .f32⟩
  | 31 => ⟨S16x2048x256, .f32⟩
  | 32 => ⟨S1x256, .f32⟩
  | 33 => ⟨S256, .f32⟩
  | 34 => ⟨S1x1x256, .f32⟩
  | 35 => ⟨S16x2048x256, .f32⟩
  | 36 => ⟨S16x2048x256, .f32⟩
  | 37 => ⟨S16x2048x256, .f32⟩
  | 38 => ⟨S16x2048x256, .f32⟩
  | 39 => ⟨S1x256, .f32⟩
  | 40 => ⟨S256, .f32⟩
  | 41 => ⟨S1x1x256, .f32⟩
  | 42 => ⟨S16x2048x256, .f32⟩
  | 43 => ⟨S16x2048x256, .f32⟩
  | 44 => ⟨S16x2048x256, .f32⟩
  | 45 => ⟨S16x2048x256, .f32⟩
  | 46 => ⟨S1x256, .f32⟩
  | 47 => ⟨S256, .f32⟩
  | 48 => ⟨S1x1x256, .f32⟩
  | 49 => ⟨S16x2048x256, .f32⟩
  | 50 => ⟨S16x2048x256, .f32⟩
  | 51 => ⟨S16x2048x256, .f32⟩
  | 52 => ⟨S16x2048x256, .f32⟩
  | 53 => ⟨S1x256, .f32⟩
  | 54 => ⟨S256, .f32⟩
  | 55 => ⟨S1x1x256, .f32⟩
  | 56 => ⟨S16x2048x256, .f32⟩
  | 57 => ⟨S16x2048x256, .f32⟩
  | 58 => ⟨S16x2048x256, .f32⟩
  | 59 => ⟨S16x2048x256, .f32⟩
  | 60 => ⟨S1x256, .f32⟩
  | 61 => ⟨S256, .f32⟩
  | 62 => ⟨S1x1x256, .f32⟩
  | 63 => ⟨S16x2048x256, .f32⟩
  | 64 => ⟨S16x2048x256, .f32⟩
  | 65 => ⟨S16x2048x256, .f32⟩
  | 66 => ⟨S16x2048x256, .f32⟩
  | 67 => ⟨S1x256, .f32⟩
  | 68 => ⟨S256, .f32⟩
  | 69 => ⟨S1x1x256, .f32⟩
  | 70 => ⟨S16x2048x256, .f32⟩
  | 71 => ⟨S16x2048x256, .f32⟩
  | 72 => ⟨S16x2048x256, .f32⟩
  | 73 => ⟨S16x2048x256, .f32⟩
  | 74 => ⟨S1x256, .f32⟩
  | 75 => ⟨S256, .f32⟩
  | 76 => ⟨S1x1x256, .f32⟩
  | 77 => ⟨S16x2048x256, .f32⟩
  | 78 => ⟨S16x2048x256, .f32⟩
  | 79 => ⟨S16x2048x256, .f32⟩
  | 80 => ⟨S16x2048x256, .f32⟩
  | 81 => ⟨S1x256, .f32⟩
  | 82 => ⟨S256, .f32⟩
  | 83 => ⟨S1x1x256, .f32⟩
  | 84 => ⟨S16x2048x256, .f32⟩
  | 85 => ⟨S16x2048x256, .f32⟩
  | 86 => ⟨S16x2048x256, .f32⟩
  | 87 => ⟨S16x2048x256, .f32⟩
  | 88 => ⟨S1x256, .f32⟩
  | 89 => ⟨S256, .f32⟩
  | 90 => ⟨S1x1x256, .f32⟩
  | 91 => ⟨S16x2048x256, .f32⟩
  | 92 => ⟨S16x2048x256, .f32⟩
  | 93 => ⟨S16x2048x256, .f32⟩
  | 94 => ⟨S16x2048x256, .f32⟩
  | 95 => ⟨S1x256, .f32⟩
  | 96 => ⟨S256, .f32⟩
  | 97 => ⟨S1x1x256, .f32⟩
  | 98 => ⟨S16x2048x256, .f32⟩
  | 99 => ⟨S16x2048x256, .f32⟩
  | 100 => ⟨S16x2048x256, .f32⟩
  | 101 => ⟨S16x2048x256, .f32⟩
  | 102 => ⟨S1x256, .f32⟩
  | 103 => ⟨S256, .f32⟩
  | 104 => ⟨S1x1x256, .f32⟩
  | 105 => ⟨S16x2048x256, .f32⟩
  | 106 => ⟨S16x2048x256, .f32⟩
  | 107 => ⟨S16x2048x256, .f32⟩
  | 108 => ⟨S16x2048x256, .f32⟩
  | 109 => ⟨S1x256, .f32⟩
  | 110 => ⟨S256, .f32⟩
  | 111 => ⟨S1x1x256, .f32⟩
  | 112 => ⟨S16x2048x256, .f32⟩
  | 113 => ⟨S16x2048x256, .f32⟩
  | 114 => ⟨S16x2048x256, .f32⟩
  | 115 => ⟨S16x2048x256, .f32⟩
  | 116 => ⟨S1x256, .f32⟩
  | 117 => ⟨S256, .f32⟩
  | 118 => ⟨S1x1x256, .f32⟩
  | 119 => ⟨S16x2048x256, .f32⟩
  | 120 => ⟨S16x2048x256, .f32⟩
  | 121 => ⟨S16x2048x256, .f32⟩
  | 122 => ⟨S16x2048x256, .f32⟩
  | 123 => ⟨S1x256, .f32⟩
  | 124 => ⟨S256, .f32⟩
  | 125 => ⟨S1x1x256, .f32⟩
  | 126 => ⟨S16x2048x256, .f32⟩
  | 127 => ⟨S16x2048x256, .f32⟩
  | _ => ⟨S16x2048x1024, .f32⟩

abbrev hbmTy0_3 (i : Nat) : BufTy := match i % 128 with
  | 0 => ⟨S16x2048x256, .f32⟩
  | 1 => ⟨S16x2048x256, .f32⟩
  | 2 => ⟨S1x256, .f32⟩
  | 3 => ⟨S256, .f32⟩
  | 4 => ⟨S1x1x256, .f32⟩
  | 5 => ⟨S16x2048x256, .f32⟩
  | 6 => ⟨S16x2048x256, .f32⟩
  | 7 => ⟨S16x2048x256, .f32⟩
  | 8 => ⟨S16x2048x256, .f32⟩
  | 9 => ⟨S1x256, .f32⟩
  | 10 => ⟨S256, .f32⟩
  | 11 => ⟨S1x1x256, .f32⟩
  | 12 => ⟨S16x2048x256, .f32⟩
  | 13 => ⟨S16x2048x256, .f32⟩
  | 14 => ⟨S16x2048x256, .f32⟩
  | 15 => ⟨S16x2048x256, .f32⟩
  | 16 => ⟨S1x256, .f32⟩
  | 17 => ⟨S256, .f32⟩
  | 18 => ⟨S1x1x256, .f32⟩
  | 19 => ⟨S16x2048x256, .f32⟩
  | 20 => ⟨S16x2048x256, .f32⟩
  | 21 => ⟨S16x2048x256, .f32⟩
  | 22 => ⟨S16x2048x256, .f32⟩
  | 23 => ⟨S1x256, .f32⟩
  | 24 => ⟨S256, .f32⟩
  | 25 => ⟨S1x1x256, .f32⟩
  | 26 => ⟨S16x2048x256, .f32⟩
  | 27 => ⟨S16x2048x256, .f32⟩
  | 28 => ⟨S16x2048x256, .f32⟩
  | 29 => ⟨S16x2048x256, .f32⟩
  | 30 => ⟨S1x256, .f32⟩
  | 31 => ⟨S256, .f32⟩
  | 32 => ⟨S1x1x256, .f32⟩
  | 33 => ⟨S16x2048x256, .f32⟩
  | 34 => ⟨S16x2048x256, .f32⟩
  | 35 => ⟨S16x2048x256, .f32⟩
  | 36 => ⟨S16x2048x256, .f32⟩
  | 37 => ⟨S1x256, .f32⟩
  | 38 => ⟨S256, .f32⟩
  | 39 => ⟨S1x1x256, .f32⟩
  | 40 => ⟨S16x2048x256, .f32⟩
  | 41 => ⟨S16x2048x256, .f32⟩
  | 42 => ⟨S16x2048x256, .f32⟩
  | 43 => ⟨S16x2048x256, .f32⟩
  | 44 => ⟨S1x256, .f32⟩
  | 45 => ⟨S256, .f32⟩
  | 46 => ⟨S1x1x256, .f32⟩
  | 47 => ⟨S16x2048x256, .f32⟩
  | 48 => ⟨S16x2048x256, .f32⟩
  | 49 => ⟨S16x2048x256, .f32⟩
  | 50 => ⟨S16x2048x256, .f32⟩
  | 51 => ⟨S1x256, .f32⟩
  | 52 => ⟨S256, .f32⟩
  | 53 => ⟨S1x1x256, .f32⟩
  | 54 => ⟨S16x2048x256, .f32⟩
  | 55 => ⟨S16x2048x256, .f32⟩
  | 56 => ⟨S16x2048x256, .f32⟩
  | 57 => ⟨S16x2048x256, .f32⟩
  | 58 => ⟨S1x256, .f32⟩
  | 59 => ⟨S256, .f32⟩
  | 60 => ⟨S1x1x256, .f32⟩
  | 61 => ⟨S16x2048x256, .f32⟩
  | 62 => ⟨S16x2048x256, .f32⟩
  | 63 => ⟨S16x2048x256, .f32⟩
  | 64 => ⟨S16x2048x256, .f32⟩
  | 65 => ⟨S1x256, .f32⟩
  | 66 => ⟨S256, .f32⟩
  | 67 => ⟨S1x1x256, .f32⟩
  | 68 => ⟨S16x2048x256, .f32⟩
  | 69 => ⟨S16x2048x256, .f32⟩
  | 70 => ⟨S16x2048x256, .f32⟩
  | 71 => ⟨S16x2048x256, .f32⟩
  | 72 => ⟨S1x256, .f32⟩
  | 73 => ⟨S256, .f32⟩
  | 74 => ⟨S1x1x256, .f32⟩
  | 75 => ⟨S16x2048x256, .f32⟩
  | 76 => ⟨S16x2048x256, .f32⟩
  | 77 => ⟨S16x2048x256, .f32⟩
  | 78 => ⟨S16x2048x256, .f32⟩
  | 79 => ⟨S1x256, .f32⟩
  | 80 => ⟨S256, .f32⟩
  | 81 => ⟨S1x1x256, .f32⟩
  | 82 => ⟨S16x2048x256, .f32⟩
  | 83 => ⟨S16x2048x256, .f32⟩
  | 84 => ⟨S16x2048x256, .f32⟩
  | 85 => ⟨S1x1x256, .f32⟩
  | 86 => ⟨S16x2048x256, .f32⟩
  | 87 => ⟨S16x2048x256, .f32⟩
  | 88 => ⟨S_, .f32⟩
  | 89 => ⟨S16x2048, .f32⟩
  | 90 => ⟨S16x2048x1, .f32⟩
  | 91 => ⟨S_, .f32⟩
  | 92 => ⟨S16x2048x1, .f32⟩
  | 93 => ⟨S16x2048x1, .f32⟩
  | 94 => ⟨S16x2048x256, .f32⟩
  | 95 => ⟨S16x2048x256, .f32⟩
  | 96 => ⟨S16x2048x256, .f32⟩
  | 97 => ⟨S_, .f32⟩
  | 98 => ⟨S16x2048, .f32⟩
  | 99 => ⟨S16x2048x1, .f32⟩
  | 100 => ⟨S_, .f32⟩
  | 101 => ⟨S16x2048x1, .f32⟩
  | 102 => ⟨S16x2048x1, .f32⟩
  | 103 => ⟨S16x2048x256, .f32⟩
  | 104 => ⟨S16x2048x256, .f32⟩
  | 105 => ⟨S_, .f32⟩
  | 106 => ⟨S16x2048x1, .f32⟩
  | 107 => ⟨S16x2048x1, .f32⟩
  | 108 => ⟨S16x2048x1, .f32⟩
  | 109 => ⟨S16x2048x256, .f32⟩
  | 110 => ⟨S16x2048x256, .f32⟩
  | 111 => ⟨S1x1x256, .f32⟩
  | 112 => ⟨S16x2048x256, .f32⟩
  | 113 => ⟨S16x2048x256, .f32⟩
  | 114 => ⟨S1x1x256, .f32⟩
  | 115 => ⟨S16x2048x256, .f32⟩
  | 116 => ⟨S16x2048x256, .f32⟩
  | 117 => ⟨S16x2048x256, .f32⟩
  | 118 => ⟨S16x2048x256, .f32⟩
  | 119 => ⟨S_, .f32⟩
  | 120 => ⟨S16x2048x256, .f32⟩
  | 121 => ⟨S16x2048x256, .f32⟩
  | 122 => ⟨S_, .f32⟩
  | 123 => ⟨S16x2048x256, .f32⟩
  | 124 => ⟨S16x2048x256, .f32⟩
  | 125 => ⟨S16x2048x256, .f32⟩
  | 126 => ⟨S16x2048x256, .f32⟩
  | 127 => ⟨S1x1x256, .f32⟩
  | _ => ⟨S16x2048x1024, .f32⟩

abbrev hbmTy0_4 (i : Nat) : BufTy := match i % 128 with
  | 0 => ⟨S16x2048x256, .f32⟩
  | 1 => ⟨S16x2048x256, .f32⟩
  | 2 => ⟨S16x2048x256, .f32⟩
  | 3 => ⟨S_, .f32⟩
  | 4 => ⟨S16x2x256, .f32⟩
  | 5 => ⟨S16x2050x256, .f32⟩
  | 6 => ⟨S16x2048x256, .f32⟩
  | 7 => ⟨S1x256, .f32⟩
  | 8 => ⟨S256, .f32⟩
  | 9 => ⟨S1x1x256, .f32⟩
  | 10 => ⟨S16x2048x256, .f32⟩
  | 11 => ⟨S16x2048x256, .f32⟩
  | 12 => ⟨S16x2048x256, .f32⟩
  | 13 => ⟨S1x256, .f32⟩
  | 14 => ⟨S256, .f32⟩
  | 15 => ⟨S1x1x256, .f32⟩
  | 16 => ⟨S16x2048x256, .f32⟩
  | 17 => ⟨S16x2048x256, .f32⟩
  | 18 => ⟨S16x2048x256, .f32⟩
  | 19 => ⟨S16x2048x256, .f32⟩
  | 20 => ⟨S1x256, .f32⟩
  | 21 => ⟨S256, .f32⟩
  | 22 => ⟨S1x1x256, .f32⟩
  | 23 => ⟨S16x2048x256, .f32⟩
  | 24 => ⟨S16x2048x256, .f32⟩
  | 25 => ⟨S16x2048x256, .f32⟩
  | 26 => ⟨S16x2048x256, .f32⟩
  | 27 => ⟨S16x2048x1024, .f32⟩
  | 28 => ⟨S16x2048x1024, .f32⟩
  | 29 => ⟨S16x2048x1024, .f32⟩
  | _ => ⟨S16x2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call0_v0 : Ref sig .tc := ⟨.hbm, 62, rfl⟩
abbrev main_call0_call0_cst : Ref sig .tc := ⟨.hbm, 63, rfl⟩
abbrev main_call0_call0_v0 : Ref sig .tc := ⟨.hbm, 64, rfl⟩
abbrev main_call0_call0_v1 : Ref sig .tc := ⟨.hbm, 65, rfl⟩
abbrev main_call0_call0_v2 : Ref sig .tc := ⟨.hbm, 66, rfl⟩
abbrev main_call0_call0_v3 : Ref sig .tc := ⟨.hbm, 67, rfl⟩
abbrev main_call0_call0_v4 : Ref sig .tc := ⟨.hbm, 68, rfl⟩
abbrev main_call0_call0_v5 : Ref sig .tc := ⟨.hbm, 69, rfl⟩
abbrev main_call0_call0_v6 : Ref sig .tc := ⟨.hbm, 70, rfl⟩
abbrev main_call0_call0_v7 : Ref sig .tc := ⟨.hbm, 71, rfl⟩
abbrev main_call0_call0_v8 : Ref sig .tc := ⟨.hbm, 72, rfl⟩
abbrev main_call0_call0_v9 : Ref sig .tc := ⟨.hbm, 73, rfl⟩
abbrev main_call0_call0_v10 : Ref sig .tc := ⟨.hbm, 74, rfl⟩
abbrev main_call0_call0_v11 : Ref sig .tc := ⟨.hbm, 75, rfl⟩
abbrev main_call0_v1 : Ref sig .tc := ⟨.hbm, 76, rfl⟩
abbrev main_v42 : Ref sig .tc := ⟨.hbm, 77, rfl⟩
abbrev main_c : Ref sig .tc := ⟨.hbm, 78, rfl⟩
abbrev main_v43 : Ref sig .tc := ⟨.hbm, 79, rfl⟩
abbrev main_call1_v0 : Ref sig .tc := ⟨.hbm, 80, rfl⟩
abbrev main_call1_c : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_c_0 : Ref sig .tc := ⟨.hbm, 86, rfl⟩
abbrev main_call1_v5 : Ref sig .tc := ⟨.hbm, 87, rfl⟩
abbrev main_v44 : Ref sig .tc := ⟨.hbm, 88, rfl⟩
abbrev main_call2_call0_cst : Ref sig .tc := ⟨.hbm, 89, rfl⟩
abbrev main_call2_call0_v0 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_3 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_v54 : Ref sig .tc := ⟨.hbm, 104, rfl⟩
abbrev main_cst_4 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_cst_5 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_cst_6 : Ref sig .tc := ⟨.hbm, 126, rfl⟩
abbrev main_v74 : Ref sig .tc := ⟨.hbm, 127, rfl⟩
abbrev main_v75 : Ref sig .tc := ⟨.hbm, 128, rfl⟩
abbrev main_cst_7 : Ref sig .tc := ⟨.hbm, 129, rfl⟩
abbrev main_v76 : Ref sig .tc := ⟨.hbm, 130, rfl⟩
abbrev main_v77 : Ref sig .tc := ⟨.hbm, 131, rfl⟩
abbrev main_cst_8 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_cst_9 : Ref sig .tc := ⟨.hbm, 144, rfl⟩
abbrev main_v89 : Ref sig .tc := ⟨.hbm, 145, rfl⟩
abbrev main_v90 : Ref sig .tc := ⟨.hbm, 146, rfl⟩
abbrev main_cst_10 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_11 : Ref sig .tc := ⟨.hbm, 152, rfl⟩
abbrev main_v95 : Ref sig .tc := ⟨.hbm, 153, rfl⟩
abbrev main_call4_call0_cst : Ref sig .tc := ⟨.hbm, 154, rfl⟩
abbrev main_call4_call0_v0 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_cst_12 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_cst_13 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_cst_14 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_cst_15 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_cst_16 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_cst_17 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_cst_18 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_cst_19 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_cst_20 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_cst_21 : Ref sig .tc := ⟨.hbm, 243, rfl⟩
abbrev main_v174 : Ref sig .tc := ⟨.hbm, 244, rfl⟩
abbrev main_v175 : Ref sig .tc := ⟨.hbm, 245, rfl⟩
abbrev main_cst_22 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_cst_23 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev main_v232 : Ref sig .tc := ⟨.hbm, 304, rfl⟩
abbrev main_v233 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_v253 : Ref sig .tc := ⟨.hbm, 325, rfl⟩
abbrev main_v254 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_v262 : Ref sig .tc := ⟨.hbm, 334, rfl⟩
abbrev main_v263 : Ref sig .tc := ⟨.hbm, 335, rfl⟩
abbrev main_v264 : Ref sig .tc := ⟨.hbm, 336, rfl⟩
abbrev main_v265 : Ref sig .tc := ⟨.hbm, 337, rfl⟩
abbrev main_v266 : Ref sig .tc := ⟨.hbm, 338, rfl⟩
abbrev main_v267 : Ref sig .tc := ⟨.hbm, 339, rfl⟩
abbrev main_v268 : Ref sig .tc := ⟨.hbm, 340, rfl⟩
abbrev main_v269 : Ref sig .tc := ⟨.hbm, 341, rfl⟩
abbrev main_v270 : Ref sig .tc := ⟨.hbm, 342, rfl⟩
abbrev main_v271 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_v276 : Ref sig .tc := ⟨.hbm, 348, rfl⟩
abbrev main_v277 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_v282 : Ref sig .tc := ⟨.hbm, 354, rfl⟩
abbrev main_v283 : Ref sig .tc := ⟨.hbm, 355, rfl⟩
abbrev main_v284 : Ref sig .tc := ⟨.hbm, 356, rfl⟩
abbrev main_v285 : Ref sig .tc := ⟨.hbm, 357, rfl⟩
abbrev main_v286 : Ref sig .tc := ⟨.hbm, 358, rfl⟩
abbrev main_v287 : Ref sig .tc := ⟨.hbm, 359, rfl⟩
abbrev main_v288 : Ref sig .tc := ⟨.hbm, 360, rfl⟩
abbrev main_v289 : Ref sig .tc := ⟨.hbm, 361, rfl⟩
abbrev main_v290 : Ref sig .tc := ⟨.hbm, 362, rfl⟩
abbrev main_v291 : Ref sig .tc := ⟨.hbm, 363, rfl⟩
abbrev main_v292 : Ref sig .tc := ⟨.hbm, 364, rfl⟩
abbrev main_v293 : Ref sig .tc := ⟨.hbm, 365, rfl⟩
abbrev main_v294 : Ref sig .tc := ⟨.hbm, 366, rfl⟩
abbrev main_v295 : Ref sig .tc := ⟨.hbm, 367, rfl⟩
abbrev main_v296 : Ref sig .tc := ⟨.hbm, 368, rfl⟩
abbrev main_v297 : Ref sig .tc := ⟨.hbm, 369, rfl⟩
abbrev main_v298 : Ref sig .tc := ⟨.hbm, 370, rfl⟩
abbrev main_v299 : Ref sig .tc := ⟨.hbm, 371, rfl⟩
abbrev main_v300 : Ref sig .tc := ⟨.hbm, 372, rfl⟩
abbrev main_v301 : Ref sig .tc := ⟨.hbm, 373, rfl⟩
abbrev main_v302 : Ref sig .tc := ⟨.hbm, 374, rfl⟩
abbrev main_v303 : Ref sig .tc := ⟨.hbm, 375, rfl⟩
abbrev main_v304 : Ref sig .tc := ⟨.hbm, 376, rfl⟩
abbrev main_v305 : Ref sig .tc := ⟨.hbm, 377, rfl⟩
abbrev main_v306 : Ref sig .tc := ⟨.hbm, 378, rfl⟩
abbrev main_v307 : Ref sig .tc := ⟨.hbm, 379, rfl⟩
abbrev main_v308 : Ref sig .tc := ⟨.hbm, 380, rfl⟩
abbrev main_v309 : Ref sig .tc := ⟨.hbm, 381, rfl⟩
abbrev main_v310 : Ref sig .tc := ⟨.hbm, 382, rfl⟩
abbrev main_v311 : Ref sig .tc := ⟨.hbm, 383, rfl⟩
abbrev main_v312 : Ref sig .tc := ⟨.hbm, 384, rfl⟩
abbrev main_v313 : Ref sig .tc := ⟨.hbm, 385, rfl⟩
abbrev main_v314 : Ref sig .tc := ⟨.hbm, 386, rfl⟩
abbrev main_v315 : Ref sig .tc := ⟨.hbm, 387, rfl⟩
abbrev main_v316 : Ref sig .tc := ⟨.hbm, 388, rfl⟩
abbrev main_v317 : Ref sig .tc := ⟨.hbm, 389, rfl⟩
abbrev main_v318 : Ref sig .tc := ⟨.hbm, 390, rfl⟩
abbrev main_v319 : Ref sig .tc := ⟨.hbm, 391, rfl⟩
abbrev main_v320 : Ref sig .tc := ⟨.hbm, 392, rfl⟩
abbrev main_v321 : Ref sig .tc := ⟨.hbm, 393, rfl⟩
abbrev main_v322 : Ref sig .tc := ⟨.hbm, 394, rfl⟩
abbrev main_v323 : Ref sig .tc := ⟨.hbm, 395, rfl⟩
abbrev main_v324 : Ref sig .tc := ⟨.hbm, 396, rfl⟩
abbrev main_v325 : Ref sig .tc := ⟨.hbm, 397, rfl⟩
abbrev main_v326 : Ref sig .tc := ⟨.hbm, 398, rfl⟩
abbrev main_v327 : Ref sig .tc := ⟨.hbm, 399, rfl⟩
abbrev main_v328 : Ref sig .tc := ⟨.hbm, 400, rfl⟩
abbrev main_v329 : Ref sig .tc := ⟨.hbm, 401, rfl⟩
abbrev main_v330 : Ref sig .tc := ⟨.hbm, 402, rfl⟩
abbrev main_v331 : Ref sig .tc := ⟨.hbm, 403, rfl⟩
abbrev main_v332 : Ref sig .tc := ⟨.hbm, 404, rfl⟩
abbrev main_v333 : Ref sig .tc := ⟨.hbm, 405, rfl⟩
abbrev main_v334 : Ref sig .tc := ⟨.hbm, 406, rfl⟩
abbrev main_v335 : Ref sig .tc := ⟨.hbm, 407, rfl⟩
abbrev main_v336 : Ref sig .tc := ⟨.hbm, 408, rfl⟩
abbrev main_v337 : Ref sig .tc := ⟨.hbm, 409, rfl⟩
abbrev main_v338 : Ref sig .tc := ⟨.hbm, 410, rfl⟩
abbrev main_v339 : Ref sig .tc := ⟨.hbm, 411, rfl⟩
abbrev main_v340 : Ref sig .tc := ⟨.hbm, 412, rfl⟩
abbrev main_v341 : Ref sig .tc := ⟨.hbm, 413, rfl⟩
abbrev main_v342 : Ref sig .tc := ⟨.hbm, 414, rfl⟩
abbrev main_v343 : Ref sig .tc := ⟨.hbm, 415, rfl⟩
abbrev main_v344 : Ref sig .tc := ⟨.hbm, 416, rfl⟩
abbrev main_v345 : Ref sig .tc := ⟨.hbm, 417, rfl⟩
abbrev main_v346 : Ref sig .tc := ⟨.hbm, 418, rfl⟩
abbrev main_v347 : Ref sig .tc := ⟨.hbm, 419, rfl⟩
abbrev main_v348 : Ref sig .tc := ⟨.hbm, 420, rfl⟩
abbrev main_v349 : Ref sig .tc := ⟨.hbm, 421, rfl⟩
abbrev main_v350 : Ref sig .tc := ⟨.hbm, 422, rfl⟩
abbrev main_v351 : Ref sig .tc := ⟨.hbm, 423, rfl⟩
abbrev main_v352 : Ref sig .tc := ⟨.hbm, 424, rfl⟩
abbrev main_v353 : Ref sig .tc := ⟨.hbm, 425, rfl⟩
abbrev main_v354 : Ref sig .tc := ⟨.hbm, 426, rfl⟩
abbrev main_v355 : Ref sig .tc := ⟨.hbm, 427, rfl⟩
abbrev main_v356 : Ref sig .tc := ⟨.hbm, 428, rfl⟩
abbrev main_v357 : Ref sig .tc := ⟨.hbm, 429, rfl⟩
abbrev main_v358 : Ref sig .tc := ⟨.hbm, 430, rfl⟩
abbrev main_v359 : Ref sig .tc := ⟨.hbm, 431, rfl⟩
abbrev main_v360 : Ref sig .tc := ⟨.hbm, 432, rfl⟩
abbrev main_v361 : Ref sig .tc := ⟨.hbm, 433, rfl⟩
abbrev main_v362 : Ref sig .tc := ⟨.hbm, 434, rfl⟩
abbrev main_v363 : Ref sig .tc := ⟨.hbm, 435, rfl⟩
abbrev main_v364 : Ref sig .tc := ⟨.hbm, 436, rfl⟩
abbrev main_v365 : Ref sig .tc := ⟨.hbm, 437, rfl⟩
abbrev main_v366 : Ref sig .tc := ⟨.hbm, 438, rfl⟩
abbrev main_v367 : Ref sig .tc := ⟨.hbm, 439, rfl⟩
abbrev main_v368 : Ref sig .tc := ⟨.hbm, 440, rfl⟩
abbrev main_v369 : Ref sig .tc := ⟨.hbm, 441, rfl⟩
abbrev main_v370 : Ref sig .tc := ⟨.hbm, 442, rfl⟩
abbrev main_v371 : Ref sig .tc := ⟨.hbm, 443, rfl⟩
abbrev main_v372 : Ref sig .tc := ⟨.hbm, 444, rfl⟩
abbrev main_v373 : Ref sig .tc := ⟨.hbm, 445, rfl⟩
abbrev main_v374 : Ref sig .tc := ⟨.hbm, 446, rfl⟩
abbrev main_v375 : Ref sig .tc := ⟨.hbm, 447, rfl⟩
abbrev main_v376 : Ref sig .tc := ⟨.hbm, 448, rfl⟩
abbrev main_v377 : Ref sig .tc := ⟨.hbm, 449, rfl⟩
abbrev main_v378 : Ref sig .tc := ⟨.hbm, 450, rfl⟩
abbrev main_v379 : Ref sig .tc := ⟨.hbm, 451, rfl⟩
abbrev main_v380 : Ref sig .tc := ⟨.hbm, 452, rfl⟩
abbrev main_v381 : Ref sig .tc := ⟨.hbm, 453, rfl⟩
abbrev main_v382 : Ref sig .tc := ⟨.hbm, 454, rfl⟩
abbrev main_v383 : Ref sig .tc := ⟨.hbm, 455, rfl⟩
abbrev main_v384 : Ref sig .tc := ⟨.hbm, 456, rfl⟩
abbrev main_v385 : Ref sig .tc := ⟨.hbm, 457, rfl⟩
abbrev main_v386 : Ref sig .tc := ⟨.hbm, 458, rfl⟩
abbrev main_v387 : Ref sig .tc := ⟨.hbm, 459, rfl⟩
abbrev main_v388 : Ref sig .tc := ⟨.hbm, 460, rfl⟩
abbrev main_v389 : Ref sig .tc := ⟨.hbm, 461, rfl⟩
abbrev main_v390 : Ref sig .tc := ⟨.hbm, 462, rfl⟩
abbrev main_v391 : Ref sig .tc := ⟨.hbm, 463, rfl⟩
abbrev main_v392 : Ref sig .tc := ⟨.hbm, 464, rfl⟩
abbrev main_v393 : Ref sig .tc := ⟨.hbm, 465, rfl⟩
abbrev main_v394 : Ref sig .tc := ⟨.hbm, 466, rfl⟩
abbrev main_v395 : Ref sig .tc := ⟨.hbm, 467, rfl⟩
abbrev main_v396 : Ref sig .tc := ⟨.hbm, 468, rfl⟩
abbrev main_v397 : Ref sig .tc := ⟨.hbm, 469, rfl⟩
abbrev main_v398 : Ref sig .tc := ⟨.hbm, 470, rfl⟩
abbrev main_v399 : Ref sig .tc := ⟨.hbm, 471, rfl⟩
abbrev main_cst_24 : Ref sig .tc := ⟨.hbm, 472, rfl⟩
abbrev main_v400 : Ref sig .tc := ⟨.hbm, 473, rfl⟩
abbrev main_v401 : Ref sig .tc := ⟨.hbm, 474, rfl⟩
abbrev main_cst_25 : Ref sig .tc := ⟨.hbm, 475, rfl⟩
abbrev main_v402 : Ref sig .tc := ⟨.hbm, 476, rfl⟩
abbrev main_v403 : Ref sig .tc := ⟨.hbm, 477, rfl⟩
abbrev main_v404 : Ref sig .tc := ⟨.hbm, 478, rfl⟩
abbrev main_v405 : Ref sig .tc := ⟨.hbm, 479, rfl⟩
abbrev main_v406 : Ref sig .tc := ⟨.hbm, 480, rfl⟩
abbrev main_cst_26 : Ref sig .tc := ⟨.hbm, 481, rfl⟩
abbrev main_v407 : Ref sig .tc := ⟨.hbm, 482, rfl⟩
abbrev main_v408 : Ref sig .tc := ⟨.hbm, 483, rfl⟩
abbrev main_cst_27 : Ref sig .tc := ⟨.hbm, 484, rfl⟩
abbrev main_v409 : Ref sig .tc := ⟨.hbm, 485, rfl⟩
abbrev main_v410 : Ref sig .tc := ⟨.hbm, 486, rfl⟩
abbrev main_v411 : Ref sig .tc := ⟨.hbm, 487, rfl⟩
abbrev main_v412 : Ref sig .tc := ⟨.hbm, 488, rfl⟩
abbrev main_cst_28 : Ref sig .tc := ⟨.hbm, 489, rfl⟩
abbrev main_v413 : Ref sig .tc := ⟨.hbm, 490, rfl⟩
abbrev main_v414 : Ref sig .tc := ⟨.hbm, 491, rfl⟩
abbrev main_v415 : Ref sig .tc := ⟨.hbm, 492, rfl⟩
abbrev main_v416 : Ref sig .tc := ⟨.hbm, 493, rfl⟩
abbrev main_v417 : Ref sig .tc := ⟨.hbm, 494, rfl⟩
abbrev main_v418 : Ref sig .tc := ⟨.hbm, 495, rfl⟩
abbrev main_v419 : Ref sig .tc := ⟨.hbm, 496, rfl⟩
abbrev main_v420 : Ref sig .tc := ⟨.hbm, 497, rfl⟩
abbrev main_v421 : Ref sig .tc := ⟨.hbm, 498, rfl⟩
abbrev main_v422 : Ref sig .tc := ⟨.hbm, 499, rfl⟩
abbrev main_v423 : Ref sig .tc := ⟨.hbm, 500, rfl⟩
abbrev main_call5_v0 : Ref sig .tc := ⟨.hbm, 501, rfl⟩
abbrev main_call5_v1 : Ref sig .tc := ⟨.hbm, 502, rfl⟩
abbrev main_call5_cst : Ref sig .tc := ⟨.hbm, 503, rfl⟩
abbrev main_call5_v2 : Ref sig .tc := ⟨.hbm, 504, rfl⟩
abbrev main_call5_v3 : Ref sig .tc := ⟨.hbm, 505, rfl⟩
abbrev main_call5_cst_0 : Ref sig .tc := ⟨.hbm, 506, rfl⟩
abbrev main_call5_v4 : Ref sig .tc := ⟨.hbm, 507, rfl⟩
abbrev main_call5_v5 : Ref sig .tc := ⟨.hbm, 508, rfl⟩
abbrev main_v424 : Ref sig .tc := ⟨.hbm, 509, rfl⟩
abbrev main_v425 : Ref sig .tc := ⟨.hbm, 510, rfl⟩
abbrev main_v426 : Ref sig .tc := ⟨.hbm, 511, rfl⟩
abbrev main_v427 : Ref sig .tc := ⟨.hbm, 512, rfl⟩
abbrev main_v428 : Ref sig .tc := ⟨.hbm, 513, rfl⟩
abbrev main_v429 : Ref sig .tc := ⟨.hbm, 514, rfl⟩
abbrev main_cst_29 : Ref sig .tc := ⟨.hbm, 515, rfl⟩
abbrev main_v430 : Ref sig .tc := ⟨.hbm, 516, rfl⟩
abbrev main_v431 : Ref sig .tc := ⟨.hbm, 517, rfl⟩
abbrev main_v432 : Ref sig .tc := ⟨.hbm, 518, rfl⟩
abbrev main_v433 : Ref sig .tc := ⟨.hbm, 519, rfl⟩
abbrev main_v434 : Ref sig .tc := ⟨.hbm, 520, rfl⟩
abbrev main_v435 : Ref sig .tc := ⟨.hbm, 521, rfl⟩
abbrev main_v436 : Ref sig .tc := ⟨.hbm, 522, rfl⟩
abbrev main_v437 : Ref sig .tc := ⟨.hbm, 523, rfl⟩
abbrev main_v438 : Ref sig .tc := ⟨.hbm, 524, rfl⟩
abbrev main_v439 : Ref sig .tc := ⟨.hbm, 525, rfl⟩
abbrev main_v440 : Ref sig .tc := ⟨.hbm, 526, rfl⟩
abbrev main_v441 : Ref sig .tc := ⟨.hbm, 527, rfl⟩
abbrev main_v442 : Ref sig .tc := ⟨.hbm, 528, rfl⟩
abbrev main_v443 : Ref sig .tc := ⟨.hbm, 529, rfl⟩
abbrev main_v444 : Ref sig .tc := ⟨.hbm, 530, rfl⟩
abbrev main_v445 : Ref sig .tc := ⟨.hbm, 531, rfl⟩
abbrev main_v446 : Ref sig .tc := ⟨.hbm, 532, rfl⟩
abbrev main_v447 : Ref sig .tc := ⟨.hbm, 533, rfl⟩
abbrev main_v448 : Ref sig .tc := ⟨.hbm, 534, rfl⟩
abbrev main_v449 : Ref sig .tc := ⟨.hbm, 535, rfl⟩
abbrev main_v450 : Ref sig .tc := ⟨.hbm, 536, rfl⟩
abbrev main_v451 : Ref sig .tc := ⟨.hbm, 537, rfl⟩
abbrev main_v452 : Ref sig .tc := ⟨.hbm, 538, rfl⟩
abbrev main_v453 : Ref sig .tc := ⟨.hbm, 539, rfl⟩
abbrev main_v454 : Ref sig .tc := ⟨.hbm, 540, rfl⟩
abbrev main_v455 : Ref sig .tc := ⟨.hbm, 541, rfl⟩

abbrev nD : Nat := 1
abbrev τ : Topo := Topo.v7x

variable {F : FTy → Type} [FloatOps F]
-- ==== Proof.Rows.lean ====
/- The normalisation of a row, and the second call of a layer, written row by row over the extended reals. -/
module

public import Idealize.ShloMosaic.PureOps.Ideal

@[expose] public section

noncomputable section

namespace Cert.Proof.Layer

open Idealize.ShloMosaic

/-- The words the programs write for one millionth and for a thousand and twenty four, at the reals. -/
abbrev eps : EReal := Ideal.ofBits .f32 0x358637BD#32
abbrev c1024 : EReal := Ideal.ofBits .f32 0x44800000#32

/-- A row scaled by the inverse root of its mean square, times a gain. -/
def rms (g : Fin 1024 → EReal) (r : Fin 1024 → EReal) (d : Fin 1024) : EReal :=
  r d * Ideal.rsqrt (Ideal.div (∑ k, r k * r k) c1024 + eps) * g d

/-- The hidden layer on a row: the normalised row's products with the columns, cut at zero. -/
def act (g : Fin 1024 → EReal) (up : Fin 1024 → Fin 4096 → EReal) (r : Fin 1024 → EReal) (j : Fin 4096) : EReal :=
  max (∑ d, rms g r d * up d j) 0

/-- The row plus its squared hidden layer projected back. -/
def mlp (g : Fin 1024 → EReal) (up : Fin 1024 → Fin 4096 → EReal) (down : Fin 4096 → Fin 1024 → EReal)
    (r : Fin 1024 → EReal) (d : Fin 1024) : EReal :=
  r d + ∑ j, (act g up r j * act g up r j) * down j d

end Cert.Proof.Layer

end
-- ==== Proof.Mlp.lean ====
/- The second call of a layer: what the reference's array and the blocks that the grid points write hold. -/
module

public import proofs.«01_k».proof.Proof.Gen.KernelIdeal.Value
public import proofs.«01_k».proof.Proof.Gen.ReferenceIdeal.Read
public import proofs.«01_k».proof.Proof.Rows
public import Idealize.ShloMosaic.Lib.Pointwise
public import Idealize.ShloMosaic.Lib.Pipeline.ValueKit

@[expose] public section

set_option maxRecDepth 16384

noncomputable section

namespace Cert.Proof.Mlp

open Idealize.ShloMosaic Cert.Proof.Layer

section
open Cert.ReferenceIdeal Cert.ReferenceIdeal.Read

variable (x : Vec Ideal S16x2048x1024 .f32) (g : Vec Ideal S1024 .f32) (up : Vec Ideal S1024x4096 .f32)
  (down : Vec Ideal S4096x1024 .f32) (fg : Vec Ideal S1024 .f32)

abbrev rowOf (b : Fin 16) (s : Fin 2048) : Fin 1024 → EReal := fun k => x (ix3 b s k)

theorem r12 (b : Fin 16) (s : Fin 2048) (d : Fin 1024) :
    val_main_v12 x g (ix3 b s d) = rms (fun k => g (ix1 k)) (rowOf x b s) d := by
  pointwise [val_main_v0, val_main_cst, val_main_v1, val_main_v2, val_main_cst_0, val_main_v3, val_main_v4, val_main_cst_1,
    val_main_v5, val_main_v6, val_main_v7, val_main_v8, val_main_v9, val_main_v10, val_main_v11, val_main_v12, rms]

theorem r17 (b : Fin 16) (s : Fin 2048) (d : Fin 1024) :
    val_main_v17 x g up down (ix3 b s d)
      = mlp (fun k => g (ix1 k)) (fun k j => up (ix2 k j)) (fun j k => down (ix2 j k)) (rowOf x b s) d := by
  pointwise [val_main_v13, val_main_call0_cst, val_main_call0_v0, val_main_v14, val_main_v15, val_main_v16, val_main_v17,
    r12, mlp, act]

theorem r30 (b : Fin 16) (s : Fin 2048) (d : Fin 1024) :
    val_main_v30 x g up down fg (ix3 b s d)
      = rms (fun k => fg (ix1 k)) (mlp (fun k => g (ix1 k)) (fun k j => up (ix2 k j)) (fun j k => down (ix2 j k)) (rowOf x b s)) d := by
  pointwise [val_main_v18, val_main_cst_2, val_main_v19, val_main_v20, val_main_cst_3, val_main_v21, val_main_v22,
    val_main_cst_4, val_main_v23, val_main_v24, val_main_v25, val_main_v26, val_main_v27, val_main_v28, val_main_v29,
    val_main_v30, r17]
  rfl

theorem r31 (n : Fin 32768) (d : Fin 1024) :
    val_main_v31 x g up down fg (ix2 n d)
      = rms (fun k => fg (ix1 k)) (mlp (fun k => g (ix1 k)) (fun k j => up (ix2 k j)) (fun j k => down (ix2 j k))
        (rowOf x ⟨n.val / 2048, by omega⟩ ⟨n.val % 2048, by omega⟩)) d := by
  rw [← r30]
  pointwise [val_main_v31]

end

section
open Cert.KernelIdeal Cert.KernelIdeal.Gen Idealize.ShloMosaic.TcCoe

variable (v0 : Vec Ideal S512x1024 .f32) (v12 : Vec Ideal S1x1024 .f32) (v17 : Vec Ideal S1024x4096 .bf16)
  (v24 : Vec Ideal S4096x1024 .bf16) (v38 : Vec Ideal S1x1024 .f32)

theorem k37 (r : Fin 512) (d : Fin 1024) :
    k0_pay1 (k0_pay2 v0 v12 v17 v24) (k0_pay3 v38) (ix2 r d)
      = rms (fun k => v38 (ix2 0 k)) (mlp (fun k => v12 (ix2 0 k)) (fun k j => v17 (ix2 k j)) (fun j k => v24 (ix2 j k))
        (fun k => v0 (ix2 r k))) d := by
  pointwise [k0_pay1, k0_pay2, k0_pay3, rms, mlp, act]

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

theorem point (c : Dev nD) (t : Fin cfg0.N) (y : S512x1024.Idx) :
    k0_pay1 (k0_pay2 (iblk m c 0 t) (iblk m c 1 t) (iblk m c 2 t) (iblk m c 3 t)) (k0_pay3 (iblk m c 4 t)) y
      = Cert.ReferenceIdeal.Read.val_main_v31 (m ((c : Thread nD τ).loc main_arg0))
      (m ((c : Thread nD τ).loc main_arg1)) (m ((c : Thread nD τ).loc main_arg2)) (m ((c : Thread nD τ).loc main_arg3))
      (m ((c : Thread nD τ).loc main_arg4)) (((cfg0.win 5).blk t).view.emb y) := by
  obtain ⟨r, d, rfl⟩ : ∃ (r : Fin 512) (d : Fin 1024), y = ix2 r d := ⟨y 0, y 1, by funext a; fin_cases a <;> rfl⟩
  obtain ⟨n, hn⟩ : ∃ n : Fin 32768, n.val = 512 * t.val + r.val := ⟨⟨512 * t.val + r.val, by
    have : t.val < 64 := lt_of_lt_of_eq t.isLt N_0
    omega⟩, rfl⟩
  have h : ((cfg0.win 5).blk t).view.emb (ix2 r d) = ix2 n d := by blk_ext [idx t]
  have e0 : (fun k => iblk m c 0 t (ix2 r k)) = rowOf (m ((c : Thread nD τ).loc main_arg0)) ⟨n.val / 2048, by omega⟩ ⟨n.val % 2048, by omega⟩ :=
    funext fun k => by blk_ext! [iblk, V, idx t]
  have e1 : (fun k => iblk m c 1 t (ix2 0 k)) = fun k => m ((c : Thread nD τ).loc main_arg1) (ix1 k) :=
    funext fun k => by blk_ext! [iblk, V, idx t]
  have e2 : (fun k j => iblk m c 2 t (ix2 k j)) = fun k j => m ((c : Thread nD τ).loc main_arg2) (ix2 k j) :=
    funext fun k => funext fun j => by blk_ext! [iblk, V, idx t]
  have e3 : (fun k j => iblk m c 3 t (ix2 k j)) = fun k j => m ((c : Thread nD τ).loc main_arg3) (ix2 k j) :=
    funext fun k => funext fun j => by blk_ext! [iblk, V, idx t]
  have e4 : (fun k => iblk m c 4 t (ix2 0 k)) = fun k => m ((c : Thread nD τ).loc main_arg4) (ix1 k) :=
    funext fun k => by blk_ext! [iblk, V, idx t]
  rw [h, k37, r31, e0, e1, e2, e3, e4]

theorem arr (c : Dev nD) :
    (dats m 0 c).arrAt 5 cfg0.N = Cert.ReferenceIdeal.Read.val_main_v31 (m ((c : Thread nD τ).loc main_arg0))
      (m ((c : Thread nD τ).loc main_arg1)) (m ((c : Thread nD τ).loc main_arg2)) (m ((c : Thread nD τ).loc main_arg3))
      (m ((c : Thread nD τ).loc main_arg4)) := by
  refine (dats m 0 c).arrAt_eq_of_covers 5 _ (by decide +kernel) fun t hf y => ?_
  blk_simp
  rw [after0_5]
  frame_out
  exact point m c t y

end

end Cert.Proof.Mlp

end
-- ==== Proof.MlpInner.lean ====
/- The second call of the layers before the last: the same row arithmetic without the last norm. -/
module

public import proofs.«01_k».proof.Proof.Gen.Kernel3Ideal.Value
public import proofs.«01_k».proof.Proof.Gen.Reference3Ideal.Read
public import proofs.«01_k».proof.Proof.Mlp

@[expose] public section

set_option maxRecDepth 16384

noncomputable section

namespace Cert.Proof.MlpInner

open Idealize.ShloMosaic Cert.Proof.Layer Cert.Proof.Mlp

section
open Cert.Reference3Ideal Cert.Reference3Ideal.Read

variable (x : Vec Ideal S16x2048x1024 .f32) (g : Vec Ideal S1024 .f32) (up : Vec Ideal S1024x4096 .f32)
  (down : Vec Ideal S4096x1024 .f32)

theorem r18 (n : Fin 32768) (d : Fin 1024) :
    val_main_v18 x g up down (ix2 n d)
      = mlp (fun k => g (ix1 k)) (fun k j => up (ix2 k j)) (fun j k => down (ix2 j k))
        (rowOf x ⟨n.val / 2048, by omega⟩ ⟨n.val % 2048, by omega⟩) d := by
  rw [← r17]
  pointwise [val_main_v18]
  rfl

end

section
open Cert.Kernel3Ideal Cert.Kernel3Ideal.Gen Idealize.ShloMosaic.TcCoe

variable (v0 : Vec Ideal S512x1024 .f32) (v12 : Vec Ideal S1x1024 .f32) (v17 : Vec Ideal S1024x4096 .bf16)
  (v24 : Vec Ideal S4096x1024 .bf16)

theorem k27 (r : Fin 512) (d : Fin 1024) :
    k0_pay1 v0 v12 v17 v24 (ix2 r d)
      = mlp (fun k => v12 (ix2 0 k)) (fun k j => v17 (ix2 k j)) (fun j k => v24 (ix2 j k)) (fun k => v0 (ix2 r k)) d := by
  pointwise [k0_pay1, rms, mlp, act]

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_5.index t = ![t.val, 0] :=
  (by decide +kernel : ∀ t : Fin grid0.N, _)

theorem point (c : Dev nD) (t : Fin cfg0.N) (y : S512x1024.Idx) :
    k0_pay1 (iblk m c 0 t) (iblk m c 1 t) (iblk m c 2 t) (iblk m c 3 t) y
      = Cert.Reference3Ideal.Read.val_main_v18 (m ((c : Thread nD τ).loc main_arg0))
      (m ((c : Thread nD τ).loc main_arg1)) (m ((c : Thread nD τ).loc main_arg2)) (m ((c : Thread nD τ).loc main_arg3))
      (((cfg0.win 5).blk t).view.emb y) := by
  obtain ⟨r, d, rfl⟩ : ∃ (r : Fin 512) (d : Fin 1024), y = ix2 r d := ⟨y 0, y 1, by funext a; fin_cases a <;> rfl⟩
  obtain ⟨n, hn⟩ : ∃ n : Fin 32768, n.val = 512 * t.val + r.val := ⟨⟨512 * t.val + r.val, by
    have : t.val < 64 := lt_of_lt_of_eq t.isLt N_0
    omega⟩, rfl⟩
  have h : ((cfg0.win 5).blk t).view.emb (ix2 r d) = ix2 n d := by blk_ext [idx t]
  have e0 : (fun k => iblk m c 0 t (ix2 r k)) = rowOf (m ((c : Thread nD τ).loc main_arg0)) ⟨n.val / 2048, by omega⟩ ⟨n.val % 2048, by omega⟩ :=
    funext fun k => by blk_ext! [iblk, V, idx t]
  have e1 : (fun k => iblk m c 1 t (ix2 0 k)) = fun k => m ((c : Thread nD τ).loc main_arg1) (ix1 k) :=
    funext fun k => by blk_ext! [iblk, V, idx t]
  have e2 : (fun k j => iblk m c 2 t (ix2 k j)) = fun k j => m ((c : Thread nD τ).loc main_arg2) (ix2 k j) :=
    funext fun k => funext fun j => by blk_ext! [iblk, V, idx t]
  have e3 : (fun k j => iblk m c 3 t (ix2 k j)) = fun k j => m ((c : Thread nD τ).loc main_arg3) (ix2 k j) :=
    funext fun k => funext fun j => by blk_ext! [iblk, V, idx t]
  rw [h, k27, r18, e0, e1, e2, e3]

theorem arr (c : Dev nD) :
    (dats m 0 c).arrAt 5 cfg0.N = Cert.Reference3Ideal.Read.val_main_v18 (m ((c : Thread nD τ).loc main_arg0))
      (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  exact point m c t y

end

end Cert.Proof.MlpInner

end
-- ==== Proof.lean ====
/- The two forms of a layer's second call compute what the plain references compute. -/
module

public import proofs.«01_k».proof.Defs
public import proofs.«01_k».proof.Proof.Gen.Kernel.Frame
public import proofs.«01_k».proof.Proof.Gen.Kernel3.Frame
public import proofs.«01_k».proof.Proof.Gen.Kernel2.Frame
public import proofs.«01_k».proof.Proof.Gen.Kernel2Ideal.Value
public import proofs.«01_k».proof.Proof.Gen.Reference2Ideal.Read
public import proofs.«01_k».proof.Proof.Mlp
public import Idealize.ShloMosaic.Lib.Quiescent
public import proofs.«01_k».proof.Proof.MlpInner

@[expose] public section

namespace Cert.Proof

open Idealize.ShloMosaic Idealize.SL.Sem

theorem algebraic : algebraic_KernelIdeal_ReferenceIdeal (hKernelIdeal := Cert.KernelIdeal.Gen.facts) (hReferenceIdeal := Cert.ReferenceIdeal.Gen.facts) :=
  fun m ρ m' ρ' _ hag =>
    ⟨fun c => (Cert.KernelIdeal.Gen.dats m 0 c).arrAt 5 Cert.KernelIdeal.cfg0.N, Cert.KernelIdeal.Value.run_blocks m ρ,
      (θ_run _ _ _).mono (fun _ h c => ⟨(h c).1.trans (by
        obtain ⟨h0, h1, h2, h3, h4⟩ := hag c
        rw [Cert.ReferenceIdeal.Read.val_main_v31_eq, h0, h1, h2, h3, h4]
        exact (Mlp.arr m c).symm), (h c).2⟩) (Cert.ReferenceIdeal.Value.run m' ρ')⟩

theorem algebraic3 : algebraic_Kernel3Ideal_Reference3Ideal (hKernel3Ideal := Cert.Kernel3Ideal.Gen.facts) (hReference3Ideal := Cert.Reference3Ideal.Gen.facts) :=
  fun m ρ m' ρ' _ hag =>
    ⟨fun c => (Cert.Kernel3Ideal.Gen.dats m 0 c).arrAt 5 Cert.Kernel3Ideal.cfg0.N, Cert.Kernel3Ideal.Value.run_blocks m ρ,
      (θ_run _ _ _).mono (fun _ h c => ⟨(h c).1.trans (by
        obtain ⟨h0, h1, h2, h3, h4⟩ := hag c
        rw [Cert.Reference3Ideal.Read.val_main_v18_eq, h0, h1, h2, h3]
        exact (MlpInner.arr m c).symm), (h c).2⟩) (Cert.Reference3Ideal.Value.run m' ρ')⟩

theorem claim : Cert.Claim :=
  ⟨Cert.Kernel.Gen.facts, Cert.KernelIdeal.Gen.facts, Cert.ReferenceIdeal.Gen.facts,
    Cert.Kernel3.Gen.facts, Cert.Kernel3Ideal.Gen.facts, Cert.Reference3Ideal.Gen.facts,
    Cert.Kernel2.Gen.facts, Cert.Kernel2Ideal.Gen.facts, Cert.Reference2Ideal.Gen.facts,
    fun m ρ _ => Cert.Kernel.Gen.frame m ρ, fun m ρ _ => Cert.KernelIdeal.Gen.frame m ρ,
    fun m ρ _ => (θ_run _ _ _).mono (fun r h => ⟨fun c => (h c).2, sem_eq_zero_of_no_sems (by decide) r.2⟩) (Cert.ReferenceIdeal.Value.run m ρ),
    fun m ρ _ => Cert.Kernel3.Gen.frame m ρ, fun m ρ _ => Cert.Kernel3Ideal.Gen.frame m ρ,
    fun m ρ _ => (θ_run _ _ _).mono (fun r h => ⟨fun c => (h c).2, sem_eq_zero_of_no_sems (by decide) r.2⟩) (Cert.Reference3Ideal.Value.run m ρ),
    fun m ρ _ => Cert.Kernel2.Gen.frame m ρ, fun m ρ _ => Cert.Kernel2Ideal.Gen.frame m ρ,
    fun m ρ _ => (θ_run _ _ _).mono (fun r h => ⟨fun c => (h c).2, sem_eq_zero_of_no_sems (by decide) r.2⟩) (Cert.Reference2Ideal.Value.run m ρ),
    trivial, algebraic, trivial, algebraic3, trivial⟩

end Cert.Proof

end
